-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S64x128x64x64 : Shape := ⟨4, ![64, 128, 64, 64]⟩
abbrev S32x128 : Shape := ⟨2, ![32, 128]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : FVec F S64x128x64x64 .f32) (main_arg1 : FVec F S32x128 .f32) (main_arg2 : FVec F S32x128 .f32) : IVec S32x128 1 :=
  let main_v0 : FVec F S32x128 .f32 := Host.absf main_arg1
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  main_v2
-- ==== Kernel.lean ====
abbrev S64x128x64x64 : Shape := ⟨4, ![64, 128, 64, 64]⟩
abbrev S32x128 : Shape := ⟨2, ![32, 128]⟩
abbrev S64x64x64x128 : Shape := ⟨4, ![64, 64, 64, 128]⟩
abbrev S64x32x128 : Shape := ⟨3, ![64, 32, 128]⟩
abbrev S8x64x64x128 : Shape := ⟨4, ![8, 64, 64, 128]⟩
abbrev S8x32x128 : Shape := ⟨3, ![8, 32, 128]⟩
abbrev S1x64x64x128 : Shape := ⟨4, ![1, 64, 64, 128]⟩
abbrev S64x64x128 : Shape := ⟨3, ![64, 64, 128]⟩
abbrev S4096x128 : Shape := ⟨2, ![4096, 128]⟩
abbrev S1x128 : Shape := ⟨2, ![1, 128]⟩
abbrev S1x4096 : Shape := ⟨2, ![1, 4096]⟩
abbrev S32x4096 : Shape := ⟨2, ![32, 4096]⟩
abbrev S4096 : Shape := ⟨1, ![4096]⟩
abbrev S32 : Shape := ⟨1, ![32]⟩
abbrev S32x1 : Shape := ⟨2, ![32, 1]⟩
abbrev S1x32x128 : Shape := ⟨3, ![1, 32, 128]⟩
abbrev S8x32 : Shape := ⟨2, ![8, 32]⟩
abbrev S8x32x1 : Shape := ⟨3, ![8, 32, 1]⟩
abbrev S8 : Shape := ⟨1, ![8]⟩
abbrev S8x1x1 : Shape := ⟨3, ![8, 1, 1]⟩
abbrev S64x4096 : Shape := ⟨2, ![64, 4096]⟩

abbrev nBuf : Space → Nat
  | .hbm => 6
  | .vmem => 6
  | .smem => 0
  | _ => 0

abbrev bufTy : (tb : Table) → Fin (tcTables nBuf tb) → BufTy
  | .hbm, ⟨0, _⟩ => ⟨S64x128x64x64, .f32⟩
  | .hbm, ⟨1, _⟩ => ⟨S32x128, .f32⟩
  | .hbm, ⟨2, _⟩ => ⟨S32x128, .f32⟩
  | .hbm, ⟨3, _⟩ => ⟨S64x64x64x128, .f32⟩
  | .hbm, ⟨4, _⟩ => ⟨S64x32x128, .f32⟩
  | .hbm, ⟨5, _⟩ => ⟨S64x4096, .f32⟩
  | .local _ .vmem, ⟨0, _⟩ => ⟨S8x64x64x128, .f32⟩
  | .local _ .vmem, ⟨1, _⟩ => ⟨S8x64x64x128, .f32⟩
  | .local _ .vmem, ⟨2, _⟩ => ⟨S32x128, .f32⟩
  | .local _ .vmem, ⟨3, _⟩ => ⟨S32x128, .f32⟩
  | .local _ .vmem, ⟨4, _⟩ => ⟨S8x32x128, .f32⟩
  | .local _ .vmem, ⟨5, _⟩ => ⟨S8x32x128, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x128x64x64 : Shape := ⟨4, ![64, 128, 64, 64]⟩
abbrev S32x128 : Shape := ⟨2, ![32, 128]⟩
abbrev S_ : Shape := ⟨0, ![]⟩
abbrev S64x64x64 : Shape := ⟨3, ![64, 64, 64]⟩
abbrev S64x1x64x64 : Shape := ⟨4, ![64, 1, 64, 64]⟩
abbrev S64x128x4096 : Shape := ⟨3, ![64, 128, 4096]⟩
abbrev S64x4096x32 : Shape := ⟨3, ![64, 4096, 32]⟩
abbrev S64x32x4096 : Shape := ⟨3, ![64, 32, 4096]⟩
abbrev S64x4096 : Shape := ⟨2, ![64, 4096]⟩
abbrev S64x1x4096 : Shape := ⟨3, ![64, 1, 4096]⟩
abbrev S64x32x128 : Shape := ⟨3, ![64, 32, 128]⟩
abbrev S64x32 : Shape := ⟨2, ![64, 32]⟩
abbrev S64x32x1 : Shape := ⟨3, ![64, 32, 1]⟩
abbrev S1x32x128 : Shape := ⟨3, ![1, 32, 128]⟩
abbrev S64 : Shape := ⟨1, ![64]⟩
abbrev S64x1 : Shape := ⟨2, ![64, 1]⟩

abbrev nBuf : Space → Nat
  | .hbm => 60
  | .vmem => 0
  | .smem => 0
  | _ => 0

abbrev bufTy : (tb : Table) → Fin (tcTables nBuf tb) → BufTy
  | .hbm, ⟨0, _⟩ => ⟨S64x128x64x64, .f32⟩
  | .hbm, ⟨1, _⟩ => ⟨S32x128, .f32⟩
  | .hbm, ⟨2, _⟩ => ⟨S32x128, .f32⟩
  | .hbm, ⟨3, _⟩ => ⟨S64x128x64x64, .f32⟩
  | .hbm, ⟨4, _⟩ => ⟨S_, .f32⟩
  | .hbm, ⟨5, _⟩ => ⟨S64x64x64, .f32⟩
  | .hbm, ⟨6, _⟩ => ⟨S64x1x64x64, .f32⟩
  | .hbm, ⟨7, _⟩ => ⟨S64x1x64x64, .f32⟩
  | .hbm, ⟨8, _⟩ => ⟨S_, .f32⟩
  | .hbm, ⟨9, _⟩ => ⟨S64x1x64x64, .f32⟩
  | .hbm, ⟨10, _⟩ => ⟨S64x1x64x64, .f32⟩
  | .hbm, ⟨11, _⟩ => ⟨S64x128x64x64, .f32⟩
  | .hbm, ⟨12, _⟩ => ⟨S64x128x64x64, .f32⟩
  | .hbm, ⟨13, _⟩ => ⟨S64x128x4096, .f32⟩
  | .hbm, ⟨14, _⟩ => ⟨S64x4096x32, .f32⟩
  | .hbm, ⟨15, _⟩ => ⟨S64x32x4096, .f32⟩
  | .hbm, ⟨16, _⟩ => ⟨S_, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x1x4096, .f32⟩
  | .hbm, ⟨22, _⟩ => ⟨S64x32x4096, .f32⟩
  | .hbm, ⟨23, _⟩ => ⟨S64x32x4096, .f32⟩
  | .hbm, ⟨24, _⟩ => ⟨S64x32x4096, .f32⟩
  | .hbm, ⟨25, _⟩ => ⟨S_, .f32⟩
  | .hbm, ⟨26, _⟩ => ⟨S64x4096, .f32⟩
  | .hbm, ⟨27, _⟩ => ⟨S64x1x4096, .f32⟩
  | .hbm, ⟨28, _⟩ => ⟨S64x32x4096, .f32⟩
  | .hbm, ⟨29, _⟩ => ⟨S64x32x4096, .f32⟩
  | .hbm, ⟨30, _⟩ => ⟨S64x32x128, .f32⟩
  | .hbm, ⟨31, _⟩ => ⟨S_, .f32⟩
  | .hbm, ⟨32, _⟩ => ⟨S64x32, .f32⟩
  | .hbm, ⟨33, _⟩ => ⟨S64x32x1, .f32⟩
  | .hbm, ⟨34, _⟩ => ⟨S1x32x128, .f32⟩
  | .hbm, ⟨35, _⟩ => ⟨S64x32x128, .f32⟩
  | .hbm, ⟨36, _⟩ => ⟨S64x32x128, .f32⟩
  | .hbm, ⟨37, _⟩ => ⟨S64x32x128, .f32⟩
  | .hbm, ⟨38, _⟩ => ⟨S64x32x128, .f32⟩
  | .hbm, ⟨39, _⟩ => ⟨S64x32x128, .f32⟩
  | .hbm, ⟨40, _⟩ => ⟨S_, .f32⟩
  | .hbm, ⟨41, _⟩ => ⟨S64x32, .f32⟩
  | .hbm, ⟨42, _⟩ => ⟨S64x32x1, .f32⟩
  | .hbm, ⟨43, _⟩ => ⟨S64x32x1, .f32⟩
  | .hbm, ⟨44, _⟩ => ⟨S_, .f32⟩
  | .hbm, ⟨45, _⟩ => ⟨S64x32x1, .f32⟩
  | .hbm, ⟨46, _⟩ => ⟨S64x32x1, .f32⟩
  | .hbm, ⟨47, _⟩ => ⟨S64x32x128, .f32⟩
  | .hbm, ⟨48, _⟩ => ⟨S64x32x128, .f32⟩
  | .hbm, ⟨49, _⟩ => ⟨S64x4096, .f32⟩
  | .hbm, ⟨50, _⟩ => ⟨S64x4096, .f32⟩
  | .hbm, ⟨51, _⟩ => ⟨S_, .f32⟩
  | .hbm, ⟨52, _⟩ => ⟨S64, .f32⟩
  | .hbm, ⟨53, _⟩ => ⟨S64x1, .f32⟩
  | .hbm, ⟨54, _⟩ => ⟨S64x1, .f32⟩
  | .hbm, ⟨55, _⟩ => ⟨S_, .f32⟩
  | .hbm, ⟨56, _⟩ => ⟨S64x1, .f32⟩
  | .hbm, ⟨57, _⟩ => ⟨S64x1, .f32⟩
  | .hbm, ⟨58, _⟩ => ⟨S64x4096, .f32⟩
  | .hbm, ⟨59, _⟩ => ⟨S64x4096, .f32⟩
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.Frames.lean ====
/- The runs of the three programs with nothing said of the result: each terminates without a fault, leaves its three
   argument arrays as they were and every semaphore counter at zero.  The two kernel runs are generated; the
   reference is a host program with no semaphore, so its run is read at its arguments. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The printed kernel, at machine words, runs and leaves its arguments unchanged. -/
theorem kernel_runs : Cert.quiescent_Kernel := fun m ρ _ => Cert.Kernel.Gen.frame m ρ

/-- The kernel read over the extended reals runs and leaves its arguments unchanged. -/
theorem ideal_kernel_runs : Cert.quiescent_KernelIdeal := fun m ρ _ => Cert.KernelIdeal.Gen.frame m ρ

/-- The reference read over the extended reals runs and leaves its arguments unchanged. -/
theorem ideal_reference_runs : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's run again, where the weights are below infinity in size. -/
theorem ideal_kernel_runs_pre [Cert.Pre_finite_weights.Facts] : Cert.quiescent_KernelIdeal_pre_finite_weights :=
  fun m ρ _ => ideal_kernel_runs m ρ trivial

/-- The reference's run again, where the weights are below infinity in size. -/
theorem ideal_reference_runs_pre [Cert.Pre_finite_weights.Facts] : Cert.quiescent_ReferenceIdeal_pre_finite_weights :=
  fun m ρ _ => ideal_reference_runs m ρ trivial

/-- No operation of the kernel is replaced on the way to the extended reals. -/
theorem nothing_replaced : Cert.preserves_Kernel_KernelIdeal := trivial

end Cert.Proof

end
-- ==== Proof.Image.lean ====
/- NetVLAD on one image, as formulas over the extended reals: the formulas the kernel computes, the formulas the
   reference computes, and the proof that they agree when the convolution's weights are finite.  Nothing here mentions a
   program: an image is `X pixel channel`, the weights are `W cluster channel`, the centroids `C cluster channel`. -/
module

public import Idealize.ShloMosaic.PureOps.Ideal
public import Idealize.ShloMosaic.PureOps.Ideal.Laws
public import Idealize.ShloMosaic.Lib.IdealHost

@[expose] public section

noncomputable section

namespace Cert.Netvlad

open Idealize.ShloMosaic

/-! ## Sums of extended reals -/

/-- An extended real that is neither infinity. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals, taken in the extended reals, is the real sum. -/
theorem coe_sum {ι : Type} (s : Finset ι) (f : ι → ℝ) : ∑ i ∈ s, (f i : EReal) = ((∑ i ∈ s, f i : ℝ) : EReal) := by
  induction s using Finset.cons_induction with
  | empty => simp
  | cons a s ha ih => rw [Finset.sum_cons, Finset.sum_cons, ih, EReal.coe_add]

/-- A finite sum of reals is real. -/
theorem IsReal.sum {ι : Type} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- A nonnegative real factor moves into a sum of extended reals, whatever the terms are. -/
theorem sum_mul_real {ι : Type} (s : Finset ι) (f : ι → EReal) {c : EReal} (h0 : 0 ≤ c) (ht : c ≠ ⊤) :
    (∑ i ∈ s, f i) * c = ∑ i ∈ s, f i * c := by
  induction s using Finset.cons_induction with
  | empty => simp
  | cons a s ha ih => rw [Finset.sum_cons, Finset.sum_cons, EReal.right_distrib_of_nonneg_of_ne_top h0 ht, ih]

/-- A square is nonnegative. -/
theorem mul_self_nonneg' (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- A sum of squares with an infinite entry is `⊤`. -/
theorem sum_sq_top {n : ℕ} (x : Fin n → EReal) (i : Fin n) (h : x i * x i = ⊤) : ∑ j, x j * x j = ⊤ :=
  top_le_iff.1 (h ▸ Finset.single_le_sum (f := fun j => x j * x j) (fun j _ => mul_self_nonneg' (x j)) (Finset.mem_univ i))

/-! ## The guarded norm -/

/-- The small positive number both programs put under a norm. -/
def eps : EReal := Ideal.ofBits .f32 0x2B8CBCCC#32

/-- The small number is positive. -/
theorem eps_pos : 0 < eps := by
  have h : eps = ((9223372 / 9223372036854775808 : ℝ) : EReal) := by
    unfold eps
    simp [Ideal.ofBits, Ideal.ieee, -EReal.coe_mul]
    norm_num
  rw [h]
  exact EReal.coe_pos.2 (by positivity)

/-- The norm of a vector with sum of squares `s`, kept at least `eps`. -/
def guard (s : EReal) : EReal := max (Ideal.sqrt s) eps

/-- A guarded norm is positive. -/
theorem guard_pos (s : EReal) : 0 < guard s := lt_of_lt_of_le eps_pos (le_max_right _ _)

/-- A guarded norm is not zero. -/
theorem guard_ne_zero (s : EReal) : guard s ≠ 0 := (guard_pos s).ne'

/-- The guarded norm of an infinite sum of squares is infinite. -/
theorem guard_top : guard ⊤ = ⊤ := by
  unfold guard
  rw [Ideal.sqrt_top]
  exact max_eq_left le_top

/-- The reciprocal of a guarded norm. -/
def rinv (s : EReal) : EReal := Ideal.div 1 (guard s)

/-- Dividing by a guarded norm is multiplying by its reciprocal. -/
theorem div_guard (x s : EReal) : Ideal.div x (guard s) = x * rinv s :=
  (Ideal.mul_one_div (guard_ne_zero s)).symm

/-- The reciprocal of a guarded norm is the inverse of the extended reals. -/
theorem rinv_eq (s : EReal) : rinv s = (guard s)⁻¹ := by
  unfold rinv Ideal.div
  rw [if_neg (guard_ne_zero s), one_mul]

/-- The reciprocal of a guarded norm is nonnegative. -/
theorem rinv_nonneg (s : EReal) : 0 ≤ rinv s := by
  rw [rinv_eq]
  exact EReal.inv_nonneg_of_nonneg (guard_pos s).le

/-- The reciprocal of a guarded norm is a real number. -/
theorem rinv_real (s : EReal) : IsReal (rinv s) := by
  rw [rinv_eq]
  have h := guard_pos s
  generalize guard s = g at h
  induction g with
  | bot => exact absurd h (by simp)
  | top => exact ⟨0, by simp⟩
  | coe r => exact ⟨r⁻¹, (EReal.coe_inv r).symm⟩

/-- The reciprocal of a guarded norm is not `⊤`. -/
theorem rinv_ne_top (s : EReal) : rinv s ≠ ⊤ := by
  obtain ⟨r, h⟩ := rinv_real s
  rw [h]
  exact EReal.coe_ne_top r

/-- The reciprocal of an infinite guarded norm is zero. -/
theorem rinv_top : rinv ⊤ = 0 := by
  rw [rinv_eq, guard_top, EReal.inv_top]

/-- An entry of a vector divided by the vector's guarded norm is a real number: an infinite entry makes the norm
    infinite, and the quotient zero. -/
theorem unit_real {n : ℕ} (x : Fin n → EReal) (i : Fin n) : IsReal (x i * rinv (∑ j, x j * x j)) := by
  have key (h : x i * x i = ⊤) : IsReal (x i * rinv (∑ j, x j * x j)) :=
    ⟨0, by rw [sum_sq_top x i h, rinv_top, mul_zero, EReal.coe_zero]⟩
  rcases hx : x i with _ | _ | r
  · rw [← hx]; exact key (by rw [hx]; exact EReal.bot_mul_bot)
  · rw [← hx]; exact key (by rw [hx]; exact EReal.top_mul_top)
  · exact IsReal.mul ⟨r, rfl⟩ (rinv_real _)

/-! ## The soft assignment -/

/-- A maximum folded over finitely many reals from `⊥`, over at least one of them, is a real. -/
theorem fold_max_real {n : ℕ} (f : Fin (n + 1) → EReal) (h : ∀ i, IsReal (f i)) :
    IsReal (Finset.univ.fold max ⊥ f) := by
  have hne : Finset.univ.fold max ⊥ f ≠ ⊥ := fun e => by
    have h0 : f 0 ≤ Finset.univ.fold max ⊥ f := (Finset.le_fold_max _).2 (Or.inr ⟨0, Finset.mem_univ 0, le_rfl⟩)
    obtain ⟨r, hr⟩ := h 0
    rw [e, hr] at h0
    exact EReal.coe_ne_bot r (le_bot_iff.1 h0)
  have hnt : Finset.univ.fold max ⊥ f < ⊤ := (Finset.fold_max_lt _).2 ⟨bot_lt_top, fun i _ => by
    obtain ⟨r, hr⟩ := h i
    rw [hr]
    exact EReal.coe_lt_top r⟩
  exact ⟨_, (EReal.coe_toReal hnt.ne hne).symm⟩

/-- The exponentials of finitely many reals divided by their sum do not change when the same real `m` is taken from
    every exponent; on one side the division is a product with the reciprocal of the sum. -/
theorem softmax_shift {n : ℕ} (l : Fin (n + 1) → ℝ) (m : ℝ) (k : Fin (n + 1)) :
    Ideal.exp (l k) * Ideal.div 1 (∑ i, Ideal.exp (l i)) =
      Ideal.div (Ideal.exp ((l k : EReal) - m)) (∑ i, Ideal.exp ((l i : EReal) - m)) := by
  have hpos (g : Fin (n + 1) → ℝ) : (∑ i, Real.exp (g i)) ≠ 0 :=
    (Finset.sum_pos (fun i _ => Real.exp_pos (g i)) ⟨0, Finset.mem_univ 0⟩).ne'
  simp only [← EReal.coe_sub, Ideal.exp_coe]
  rw [coe_sum, coe_sum, Ideal.div_coe (hpos _), Ideal.div_coe (hpos fun i => l i - m), one_mul, ← EReal.coe_mul,
    ← EReal.coe_mul]
  congr 1
  simp only [Real.exp_sub, ← Finset.sum_div]
  have := hpos l
  have := Real.exp_pos m
  field_simp

/-! ## One image -/

section Image

variable (X : Fin 4096 → Fin 128 → EReal) (W C : Fin 32 → Fin 128 → EReal)

/-- The reciprocal of the guarded norm of pixel `p`'s descriptor. -/
def scale (p : Fin 4096) : EReal := rinv (∑ d, X p d * X p d)

/-- The kernel's logit: the weighted sum of the raw descriptor, scaled afterwards. -/
def logitK (k : Fin 32) (p : Fin 4096) : EReal := (∑ d, W k d * X p d) * scale X p

/-- The reference's logit: the descriptor is scaled first. -/
def logitR (k : Fin 32) (p : Fin 4096) : EReal := ∑ d, X p d * scale X p * W k d

/-- The kernel's soft assignment of pixel `p` to cluster `k`. -/
def assignK (k : Fin 32) (p : Fin 4096) : EReal :=
  Ideal.exp (logitK X W k p) * Ideal.div 1 (∑ i, Ideal.exp (logitK X W i p))

/-- The largest logit of pixel `p`. -/
def topR (p : Fin 4096) : EReal := Finset.univ.fold max ⊥ fun k => logitR X W k p

/-- The reference's soft assignment: the largest logit is taken off first. -/
def assignR (k : Fin 32) (p : Fin 4096) : EReal :=
  Ideal.div (Ideal.exp (logitR X W k p - topR X W p)) (∑ i, Ideal.exp (logitR X W i p - topR X W p))

/-- The kernel's residual sum: the scale is multiplied into the assignment. -/
def vladK (k : Fin 32) (d : Fin 128) : EReal :=
  (∑ p, assignK X W k p * scale X p * X p d) - (∑ p, assignK X W k p) * C k d

/-- The reference's residual sum: the scale is multiplied into the descriptor. -/
def vladR (k : Fin 32) (d : Fin 128) : EReal :=
  (∑ p, assignR X W k p * (X p d * scale X p)) - (∑ p, assignR X W k p) * C k d

/-- The two logits agree for all inputs. -/
theorem logit_eq (k : Fin 32) (p : Fin 4096) : logitK X W k p = logitR X W k p := by
  unfold logitK logitR scale
  rw [sum_mul_real _ _ (rinv_nonneg _) (rinv_ne_top _)]
  exact Finset.sum_congr rfl fun d _ => by rw [mul_assoc, mul_comm]

/-- With finite weights every logit is a real number. -/
theorem logitR_real (hW : ∀ k d, IsReal (W k d)) (k : Fin 32) (p : Fin 4096) : IsReal (logitR X W k p) :=
  IsReal.sum _ fun d => IsReal.mul (unit_real (X p) d) (hW k d)

/-- With finite weights the two soft assignments agree. -/
theorem assign_eq (hW : ∀ k d, IsReal (W k d)) (k : Fin 32) (p : Fin 4096) : assignK X W k p = assignR X W k p := by
  unfold assignK assignR
  simp only [logit_eq]
  obtain ⟨m, hm⟩ : IsReal (topR X W p) := fold_max_real (n := 31) _ fun k => logitR_real X W hW k p
  choose l hl using fun k => logitR_real X W hW k p
  rw [hm]
  simp only [hl]
  exact softmax_shift (n := 31) l m k

/-- With finite weights the two residual sums agree, for any descriptors and any centroids. -/
theorem vlad_eq (hW : ∀ k d, IsReal (W k d)) (k : Fin 32) (d : Fin 128) : vladK X W C k d = vladR X W C k d := by
  unfold vladK vladR
  simp only [assign_eq X W hW]
  congr 1
  exact Finset.sum_congr rfl fun p _ => by rw [mul_assoc, mul_comm (scale X p)]

end Image

/-! ## The two normalisations -/

/-- Each cluster's residual sum divided by its guarded norm. -/
def intra (v : Fin 32 → Fin 128 → EReal) (k : Fin 32) (d : Fin 128) : EReal :=
  Ideal.div (v k d) (guard (∑ e, v k e * v k e))

/-- The whole descriptor divided by its guarded norm. -/
def total (u : Fin 32 → Fin 128 → EReal) (k : Fin 32) (d : Fin 128) : EReal :=
  Ideal.div (u k d) (guard (∑ i, ∑ e, u i e * u i e))

end Cert.Netvlad

end
-- ==== Proof.Body.lean ====
/- The kernel's body, read at an index over the extended reals: what it computes from one image of a block is
   `vladK`, and what it stores is the two normalisations of the eight images' residual sums. -/
module

public import proofs.«01_k».proof.Proof.Gen.KernelIdeal.Frame
public import proofs.«01_k».proof.Proof.Image
public import Idealize.ShloMosaic.Lib.Pointwise

@[expose] public section

set_option maxRecDepth 16384

noncomputable section

namespace Cert.KernelIdeal.Body

open Idealize.ShloMosaic Cert.KernelIdeal Cert.KernelIdeal.Gen Cert.Netvlad

/-- A 32 × 128 array as a function of its row and column. -/
def table (a : FVec Ideal S32x128 .f32) (k : Fin 32) (d : Fin 128) : EReal := a (ix2 k d)

/-- One image, stored 1 × 64 × 64 × 128, as a function of the pixel (its row and column in one number) and the channel. -/
def image (x : FVec Ideal S1x64x64x128 .f32) (p : Fin 4096) (d : Fin 128) : EReal :=
  x (ix4 0 ⟨p.val / 64, by omega⟩ ⟨p.val % 64, by omega⟩ d)

/-- What the body computes from one image is the kernel's residual sum of that image. -/
theorem pay3_apply (w c : FVec Ideal S32x128 .f32) (x : FVec Ideal S1x64x64x128 .f32) (k : Fin 32) (d : Fin 128) :
    k0_pay3 (F := Ideal) w c x (ix2 k d) = vladK (image x) (table w) (table c) k d := by
  pointwise [k0_pay3, k0_pay2]
  rfl

/-- What the body stores for image `n` is image `n`'s residual sum, normalised cluster by cluster and then as a whole. -/
theorem pay1_apply (v : Fin 8 → FVec Ideal S32x128 .f32) (n : Fin 8) (k : Fin 32) (d : Fin 128) :
    k0_pay1 (F := Ideal) (v 0) (v 1) (v 2) (v 3) (v 4) (v 5) (v 6) (v 7) (ix3 n k d) =
      total (intra (table (v n))) k d := by
  pointwise [k0_pay1]
  fin_cases n <;> rfl

/-- Image `n` of a block of eight. -/
def member (x : FVec Ideal S8x64x64x128 .f32) (n : Fin 8) : FVec Ideal S1x64x64x128 .f32 :=
  fun i => x (ix4 n (i 1) (i 2) (i 3))

/-- The load of image `n` of the block: the rectangle of one image that starts at image `n`. -/
theorem ld_member (x : FVec Ideal S8x64x64x128 .f32) (n : Fin 8)
    (inb : ∀ a, (![n.val, 0, 0, 0] : Fin 4 → ℕ) a + S1x64x64x128.size a ≤ S8x64x64x128.size a) :
    View.ld (Val := Elt Ideal) (e' := .f32) x (Rect.unit (s := S8x64x64x128) ![n.val, 0, 0, 0] S1x64x64x128.size inb) =
      member x n := by
  funext i
  pointwise [member]

/-- The residual sum the body computes from one image, as an array. -/
def residual (w c : FVec Ideal S32x128 .f32) (x : FVec Ideal S1x64x64x128 .f32) : FVec Ideal S32x128 .f32 :=
  k0_pay3 (F := Ideal) w c x

/-- What the body stores, from the eight images of its block: each image goes through the same operations. -/
theorem out_eq (x : FVec Ideal S8x64x64x128 .f32) (w c : FVec Ideal S32x128 .f32) :
    out0_3 (F := Ideal) x w c =
      k0_pay1 (F := Ideal) (residual w c (member x 0)) (residual w c (member x 1)) (residual w c (member x 2)) (residual w c (member x 3))
        (residual w c (member x 4)) (residual w c (member x 5)) (residual w c (member x 6)) (residual w c (member x 7)) := by
  have hz2 : (![0, 0] : Fin 2 → ℕ) = fun _ => 0 := by funext a; fin_cases a <;> rfl
  have hz3 : (![0, 0, 0] : Fin 3 → ℕ) = fun _ => 0 := by funext a; fin_cases a <;> rfl
  rw [← ld_member x 0 (by decide), ← ld_member x 1 (by decide), ← ld_member x 2 (by decide), ← ld_member x 3 (by decide),
    ← ld_member x 4 (by decide), ← ld_member x 5 (by decide), ← ld_member x 6 (by decide), ← ld_member x 7 (by decide)]
  unfold out0_3 k0_pay27
  rw [View.canon_unit_zero hz3, View.ld_unit_zero hz2, View.ld_unit_zero hz2]
  rfl

/-- What the body stores at image `n`, cluster `k` and channel `d`. -/
theorem out_apply (x : FVec Ideal S8x64x64x128 .f32) (w c : FVec Ideal S32x128 .f32) (n : Fin 8) (k : Fin 32) (d : Fin 128) :
    out0_3 (F := Ideal) x w c (ix3 n k d) =
      total (intra (vladK (image (member x n)) (table w) (table c))) k d := by
  rw [out_eq, pay1_apply (fun n => residual w c (member x n)) n k d]
  have h : table (residual w c (member x n)) = vladK (image (member x n)) (table w) (table c) :=
    funext fun k => funext fun d => pay3_apply w c (member x n) k d
  rw [h]

end Cert.KernelIdeal.Body

end
-- ==== Proof.Final.lean ====
/- The kernel's result over the extended reals: what every grid point writes back, the array the eight blocks make up,
   and the reshape at the end. -/
module

public import proofs.«01_k».proof.Proof.Body
public import Idealize.ShloMosaic.Lib.Pipeline.ValueKit
public import Idealize.ShloMosaic.Lib.StableHlo.ReadAt

@[expose] public section

set_option maxRecDepth 16384

noncomputable section

namespace Cert.KernelIdeal.Final

open Idealize.ShloMosaic Idealize.ShloMosaic.TcCoe Idealize.SL.Sem
open Cert.KernelIdeal Cert.KernelIdeal.Gen Cert.KernelIdeal.Body Cert.Netvlad

variable (m : (ℓ : Loc nD τ sig) → Buf (Elt Ideal) ℓ) (ρ : Dev nD → PrngReg)

/-- The descriptors, as launched. -/
abbrev argX (c : Dev nD) : FVec Ideal S64x128x64x64 .f32 := m ((c : Thread nD τ).loc main_arg0)
/-- The weights, as launched. -/
abbrev argW (c : Dev nD) : FVec Ideal S32x128 .f32 := m ((c : Thread nD τ).loc main_arg1)
/-- The centroids, as launched. -/
abbrev argC (c : Dev nD) : FVec Ideal S32x128 .f32 := m ((c : Thread nD τ).loc main_arg2)

/-- Image `n` of the descriptors, as a function of the pixel and the channel. -/
def photo (x : FVec Ideal S64x128x64x64 .f32) (n : Fin 64) (p : Fin 4096) (d : Fin 128) : EReal :=
  x (ix4 n d ⟨p.val / 64, by omega⟩ ⟨p.val % 64, by omega⟩)

/-- What the result array is shown to hold before the reshape. -/
def pooled (x : FVec Ideal S64x128x64x64 .f32) (w c : FVec Ideal S32x128 .f32) : FVec Ideal S64x32x128 .f32 :=
  fun i => total (intra (vladK (photo x (i 0)) (table w) (table c))) (i 1) (i 2)

/-- The block each window is on at a grid point: block `t` of the images, and the one block of the other arrays. -/
theorem idx : ∀ t : Fin grid0.N, win0_0.index t = ![t.val, 0, 0, 0] ∧ win0_1.index t = ![0, 0] ∧
    win0_2.index t = ![0, 0] ∧ win0_3.index t = ![t.val, 0, 0] := by
  decide +kernel

/-- The array the host hands to the launch: the images with the channels moved to the end. -/
theorem entry_x (c : Dev nD) (n : Fin 64) (a b : Fin 64) (d : Fin 128) :
    V m c main_v0 (ix4 n a b d) = argX m c (ix4 n d a b) := by
  unfold V V0 hostOps0
  after_reads_at

/-- The images' block at point `t`, read at an index. -/
theorem block_x (c : Dev nD) (t : Fin cfg0.N) (n : Fin 8) (a b : Fin 64) (d : Fin 128) (h : t.val * 8 + n.val < 64) :
    iblk m c 0 t (ix4 n a b d) = argX m c (ix4 ⟨t.val * 8 + n.val, h⟩ d a b) := by
  rw [← entry_x]
  blk_ext [iblk, (idx t).1]

/-- The weights' block is the whole array at every point. -/
theorem block_w (c : Dev nD) (t : Fin cfg0.N) (k : Fin 32) (d : Fin 128) : iblk m c 1 t (ix2 k d) = argW m c (ix2 k d) := by
  blk_point [iblk, V, (idx t).2.1]

/-- The centroids' block is the whole array at every point. -/
theorem block_c (c : Dev nD) (t : Fin cfg0.N) (k : Fin 32) (d : Fin 128) : iblk m c 2 t (ix2 k d) = argC m c (ix2 k d) := by
  blk_point [iblk, V, (idx t).2.2.1]

/-- Image `n` of the block at point `t` is image `8 t + n` of the launch. -/
theorem image_block (c : Dev nD) (t : Fin cfg0.N) (n : Fin 8) (h : t.val * 8 + n.val < 64) :
    image (member (iblk m c 0 t) n) = photo (argX m c) ⟨t.val * 8 + n.val, h⟩ :=
  funext fun p => funext fun d => block_x m c t n ⟨p.val / 64, by omega⟩ ⟨p.val % 64, by omega⟩ d h

/-- The eight blocks written back make up the pooled array. -/
theorem final (c : Dev nD) : (dats m 0 c).arrAt 3 cfg0.N = pooled (argX m c) (argW m c) (argC m c) := by
  refine (dats m 0 c).arrAt_eq_of_covers 3 _ (by decide +kernel) fun t hf y => ?_
  blk_simp
  rw [after0_3]
  have ht : t.val < 8 := t.isLt
  idx_vars y
  have h : t.val * 8 + y0.val < 64 := by omega
  have e : ((View.whole main_v1).slice (win0_3.rect t)).emb (ix3 y0 y1 y2) = ix3 ⟨t.val * 8 + y0.val, h⟩ y1 y2 := by
    blk_ext [(idx t).2.2.2]
  rw [e, out_apply, image_block m c t y0 h,
    show table (iblk m c 1 t) = table (argW m c) from funext fun k => funext fun d => block_w m c t k d,
    show table (iblk m c 2 t) = table (argC m c) from funext fun k => funext fun d => block_c m c t k d]
  rfl

/-- The result: the pooled array, each image's rows laid end to end. -/
theorem tail (c : Dev nD) :
    Pipeline.afterTail₀ cfgs (dats m) 0 (V0 m) [hostOps1] c main_v2
      = shapeCast S64x4096 (pooled (argX m c) (argW m c) (argC m c)) shapeCasts_S64x32x128_S64x4096 := by
  have hA : Pipeline.withArrays spec0 c (V0 m c) (fun w => (dats m 0 c).arrAt w cfg0.N) (Proc.devRef .tc main_v1)
      = pooled (argX m c) (argW m c) (argC m c) :=
    (Pipeline.withArrays_arr spec0 (by decide) c (V0 m c) (fun w => (dats m 0 c).arrAt w cfg0.N) 3).trans (final m c)
  rw [← hA]
  unfold Pipeline.afterTail₀ hostOps1
  after_reads_simp
  rfl

/-- The kernel runs, leaves its result at the pooled array, row after row, and its arguments as they were. -/
theorem run : θ_run defs (onTc (τ := τ) (main (F := Ideal))) ⟨m, fun _ => 0, ρ⟩ (fun r => ∀ c : Dev nD,
      r.2.mem ((c.tc : Thread nD τ).loc main_v2)
        = shapeCast S64x4096 (pooled (argX m c) (argW m c) (argC m c)) shapeCasts_S64x32x128_S64x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨((h.1 c).2 main_v2 (Pipeline.mem_restRefs_of main_v2 (by decide) (by decide))).trans (tail m c), h.2 c⟩)
    (θ_run_and (run_main m ρ) (unchanged m ρ))

end Cert.KernelIdeal.Final

end
-- ==== Proof.Host.lean ====
/- The reference, read at an index over the extended reals: its result at image `n` and entry `k * 128 + d` is the two
   normalisations of `vladR`, at cluster `k` and channel `d`.  The composed term the run ends in is cut into the steps
   of the algorithm, and each step is read on its own. -/
module

public import proofs.«01_k».proof.Proof.Gen.ReferenceIdeal.Run
public import proofs.«01_k».proof.Proof.Image
public import Idealize.ShloMosaic.Lib.Pointwise

@[expose] public section

set_option maxRecDepth 16384

noncomputable section

namespace Cert.ReferenceIdeal.Steps

open Idealize.ShloMosaic Cert.ReferenceIdeal Cert.ReferenceIdeal.Gen Cert.Netvlad

/-- An array of extended reals. -/
abbrev Arr (s : Shape) := FVec Ideal s .f32

/-! ## The steps of the algorithm as arrays -/

/-- The descriptors divided by their guarded norms, the pixels of an image in one axis. -/
def units (x : Arr S64x128x64x64) : Arr S64x128x4096 :=
  shapeCast _ (Host.divf x (broadcastInDim S64x128x64x64 ![0, 1, 2, 3] bcast_S64x1x64x64_S64x128x64x64_0_1_2_3
    (maximumf (Host.sqrt (broadcastInDim S64x1x64x64 ![0, 2, 3] bcast_S64x64x64_S64x1x64x64_0_2_3
        (Host.reduceAdd (mulf x x) (constant S_ .f32 0x00000000#32) reducesTo_S64x128x64x64_S64x64x64_d1 h_S_)))
      (broadcastInDim S64x1x64x64 ![] bcast_S_S64x1x64x64 (constant S_ .f32 0x2B8CBCCC#32)))))
    shapeCasts_S64x128x64x64_S64x128x4096

/-- The logits of every pixel, cluster by cluster. -/
def logits (u : Arr S64x128x4096) (w : Arr S32x128) : Arr S64x32x4096 :=
  transpose S64x32x4096 [0, 2, 1]
    (Host.dotGeneral dot_S64x128x4096_S32x128_S64x4096x32_1_1_02_0_n_n none u w : Arr S64x4096x32)
    transposes_S64x4096x32_S64x32x4096_0_2_1

/-- One number per pixel, repeated over the clusters. -/
def perPixel (v : Arr S64x4096) : Arr S64x32x4096 :=
  broadcastInDim S64x32x4096 ![0, 1, 2] bcast_S64x1x4096_S64x32x4096_0_1_2
    (broadcastInDim S64x1x4096 ![0, 2] bcast_S64x4096_S64x1x4096_0_2 v)

/-- The largest logit of every pixel. -/
def tops (l : Arr S64x32x4096) : Arr S64x4096 :=
  Host.reduce FloatOps.maximumf l (constant S_ .f32 0xFF800000#32) reducesTo_S64x32x4096_S64x4096_d1 h_S_

/-- The exponentials of the logits less a number per pixel. -/
def expsLess (l : Arr S64x32x4096) (t : Arr S64x4096) : Arr S64x32x4096 :=
  Host.exp (subf l (perPixel
    (maximumf (broadcastInDim S64x4096 ![] bcast_S_S64x4096 (constant S_ .f32 0xFF800000#32)) t)))

/-- The exponentials of the logits less the pixel's largest logit. -/
def exps (l : Arr S64x32x4096) : Arr S64x32x4096 := expsLess l (tops l)

/-- The soft assignments. -/
def assigns (l : Arr S64x32x4096) : Arr S64x32x4096 :=
  Host.divf (exps l) (perPixel
    (Host.reduceAdd (exps l) (constant S_ .f32 0x00000000#32) reducesTo_S64x32x4096_S64x4096_d1 h_S_))

/-- The residual sums. -/
def residuals (a : Arr S64x32x4096) (u : Arr S64x128x4096) (c : Arr S32x128) : Arr S64x32x128 :=
  subf (Host.dotGeneral dot_S64x32x4096_S64x128x4096_S64x32x128_2_2_1_1_0_0 none a u)
    (mulf (broadcastInDim S64x32x128 ![0, 1, 2] bcast_S64x32x1_S64x32x128_0_1_2
        (broadcastInDim S64x32x1 ![0, 1] bcast_S64x32_S64x32x1_0_1
          (Host.reduceAdd a (constant S_ .f32 0x00000000#32) reducesTo_S64x32x4096_S64x32_d2 h_S_)))
      (broadcastInDim S64x32x128 ![0, 1, 2] bcast_S1x32x128_S64x32x128_0_1_2
        (broadcastInDim S1x32x128 ![1, 2] bcast_S32x128_S1x32x128_1_2 c)))

/-- The residual sums normalised cluster by cluster, an image's entries in one axis. -/
def intras (v : Arr S64x32x128) : Arr S64x4096 :=
  shapeCast _ (Host.divf v (broadcastInDim S64x32x128 ![0, 1, 2] bcast_S64x32x1_S64x32x128_0_1_2
    (maximumf (Host.sqrt (broadcastInDim S64x32x1 ![0, 1] bcast_S64x32_S64x32x1_0_1
        (Host.reduceAdd (mulf v v) (constant S_ .f32 0x00000000#32) reducesTo_S64x32x128_S64x32_d2 h_S_)))
      (broadcastInDim S64x32x1 ![] bcast_S_S64x32x1 (constant S_ .f32 0x2B8CBCCC#32)))))
    shapeCasts_S64x32x128_S64x4096

/-- The entries of each image normalised together. -/
def totals (v : Arr S64x4096) : Arr S64x4096 :=
  Host.divf v (broadcastInDim S64x4096 ![0, 1] bcast_S64x1_S64x4096_0_1
    (maximumf (Host.sqrt (broadcastInDim S64x1 ![0] bcast_S64_S64x1_0
        (Host.reduceAdd (mulf v v) (constant S_ .f32 0x00000000#32) reducesTo_S64x4096_S64_d1 h_S_)))
      (broadcastInDim S64x1 ![] bcast_S_S64x1 (constant S_ .f32 0x2B8CBCCC#32))))

/-- The reference's result from its three arguments. -/
def result (x : Arr S64x128x64x64) (w c : Arr S32x128) : Arr S64x4096 :=
  totals (intras (residuals (assigns (logits (units x) w)) (units x) c))

open Idealize.ShloMosaic.TcCoe in
/-- The term the reference's run ends in is `result` of the three arguments. -/
theorem res_eq (m : (ℓ : Loc nD τ sig) → Buf (Elt Ideal) ℓ) (c : Dev nD) :
    Value.res_out0 (F := Ideal) m c =
      result (m ((c.tc : Thread nD τ).loc main_arg0)) (m ((c.tc : Thread nD τ).loc main_arg1))
        (m ((c.tc : Thread nD τ).loc main_arg2)) := by
  unfold Value.res_out0 Value.res_main_v46
  rfl

/-! ## The steps read at an index -/

/-- Image `n` of the reference's argument, as a function of the pixel and the channel. -/
def image (x : Arr S64x128x64x64) (n : Fin 64) (p : Fin 4096) (d : Fin 128) : EReal :=
  x (ix4 n d ⟨p.val / 64, by omega⟩ ⟨p.val % 64, by omega⟩)

/-- A 32 × 128 array as a function of its row and column. -/
def table (a : Arr S32x128) (k : Fin 32) (d : Fin 128) : EReal := a (ix2 k d)

/-- The word of the lowest value is `⊥`. -/
theorem lowest : Ideal.ofBits .f32 0xFF800000#32 = ⊥ := by
  simp [Ideal.ofBits, Ideal.ieee]

/-- An entry of the scaled descriptors: the descriptor times the reciprocal norm of its pixel. -/
theorem units_apply (x : Arr S64x128x64x64) (n : Fin 64) (d : Fin 128) (p : Fin 4096) :
    units x (ix3 n d p) = image x n p d * scale (image x n) p := by
  unfold scale
  rw [← div_guard]
  pointwise [units]
  rfl

/-- An entry of the logits: the weighted sum over the channels. -/
theorem logits_apply (u : Arr S64x128x4096) (w : Arr S32x128) (n : Fin 64) (k : Fin 32) (p : Fin 4096) :
    logits u w (ix3 n k p) = ∑ d, u (ix3 n d p) * table w k d := by
  pointwise [logits, table]

/-- An array of one number per pixel, stretched over the clusters. -/
theorem perPixel_apply (v : Arr S64x4096) (n : Fin 64) (k : Fin 32) (p : Fin 4096) :
    perPixel v (ix3 n k p) = v (ix2 n p) := by
  pointwise [perPixel]

/-- The largest logit of a pixel, as a maximum over the clusters. -/
theorem tops_apply (l : Arr S64x32x4096) (n : Fin 64) (p : Fin 4096) :
    tops l (ix2 n p) = Finset.univ.fold max (Ideal.ofBits .f32 0xFF800000#32) fun i => l (ix3 n i p) := by
  pointwise [tops]

/-- An exponential of a logit less its pixel's number. -/
theorem expsLess_apply (l : Arr S64x32x4096) (t : Arr S64x4096) (n : Fin 64) (k : Fin 32) (p : Fin 4096) :
    expsLess l t (ix3 n k p) = Ideal.exp (l (ix3 n k p) - t (ix2 n p)) := by
  pointwise [expsLess, perPixel_apply]
  rw [lowest, max_eq_right bot_le]

/-- An exponential of a logit less the largest of its pixel. -/
theorem exps_apply (l : Arr S64x32x4096) (n : Fin 64) (k : Fin 32) (p : Fin 4096) :
    exps l (ix3 n k p) = Ideal.exp (l (ix3 n k p) - Finset.univ.fold max ⊥ fun i => l (ix3 n i p)) := by
  unfold exps
  rw [expsLess_apply, tops_apply, lowest]

/-- A soft assignment: an exponential over the sum of its pixel's exponentials. -/
theorem assigns_apply (l : Arr S64x32x4096) (n : Fin 64) (k : Fin 32) (p : Fin 4096) :
    assigns l (ix3 n k p) = Ideal.div (exps l (ix3 n k p)) (∑ i, exps l (ix3 n i p)) := by
  pointwise [assigns, perPixel_apply]

/-- A residual sum: the assigned descriptors less the assigned share of the centroid. -/
theorem residuals_apply (a : Arr S64x32x4096) (u : Arr S64x128x4096) (c : Arr S32x128) (n : Fin 64) (k : Fin 32)
    (d : Fin 128) :
    residuals a u c (ix3 n k d) =
      (∑ p, a (ix3 n k p) * u (ix3 n d p)) - (∑ p, a (ix3 n k p)) * table c k d := by
  pointwise [residuals, table]

/-- The place of cluster `k` and channel `d` among an image's 4096 entries. -/
def place (k : Fin 32) (d : Fin 128) : Fin 4096 := ⟨k.val * 128 + d.val, by omega⟩

/-- The cluster and the channel at a place. -/
theorem place_eq (j : Fin 4096) : place ⟨j.val / 128, by omega⟩ ⟨j.val % 128, by omega⟩ = j :=
  Fin.ext (by simp only [place]; omega)

/-- A row divided by its guarded norm, the rows of an image laid end to end. -/
theorem intras_apply (v : Arr S64x32x128) (n : Fin 64) (k : Fin 32) (d : Fin 128) :
    intras v (ix2 n (place k d)) = intra (fun i e => v (ix3 n i e)) k d := by
  pointwise [intras, place]
  rfl

/-- An image's descriptor divided by its guarded norm. -/
theorem totals_apply (v : Arr S64x4096) (n : Fin 64) (j : Fin 4096) :
    totals v (ix2 n j) = Ideal.div (v (ix2 n j)) (guard (∑ i, v (ix2 n i) * v (ix2 n i))) := by
  pointwise [totals]
  rfl

/-- A sum over an image's 4096 entries is a sum over the clusters and the channels. -/
theorem sum_places (f : Fin 4096 → EReal) : ∑ j, f j = ∑ k, ∑ d, f (place k d) :=
  Fin.sum_univ_tiles 32 128 rfl f

/-! ## The reference's result -/

/-- The reference's residual sums are `vladR` of each image. -/
theorem residuals_eq (x : Arr S64x128x64x64) (w c : Arr S32x128) (n : Fin 64) (k : Fin 32) (d : Fin 128) :
    residuals (assigns (logits (units x) w)) (units x) c (ix3 n k d) = vladR (image x n) (table w) (table c) k d := by
  have hl (i : Fin 32) (p : Fin 4096) : logits (units x) w (ix3 n i p) = logitR (image x n) (table w) i p := by
    rw [logits_apply]
    simp only [units_apply]
    rfl
  have he (i : Fin 32) (p : Fin 4096) : exps (logits (units x) w) (ix3 n i p) =
      Ideal.exp (logitR (image x n) (table w) i p - topR (image x n) (table w) p) := by
    rw [exps_apply]
    simp only [hl]
    rfl
  have ha (p : Fin 4096) : assigns (logits (units x) w) (ix3 n k p) = assignR (image x n) (table w) k p := by
    rw [assigns_apply]
    simp only [he]
    rfl
  rw [residuals_apply]
  simp only [ha, units_apply]
  rfl

/-- The reference's result at image `n` and the place of cluster `k` and channel `d`. -/
theorem result_apply (x : Arr S64x128x64x64) (w c : Arr S32x128) (n : Fin 64) (k : Fin 32) (d : Fin 128) :
    result x w c (ix2 n (place k d)) = total (intra (vladR (image x n) (table w) (table c))) k d := by
  unfold result
  rw [totals_apply, sum_places]
  simp only [intras_apply, residuals_eq]
  rfl

end Cert.ReferenceIdeal.Steps

end
-- ==== Proof.Value.lean ====
/- The equation of the two results.  The precondition says that every weight is below infinity in size, so every weight is
   a real number; then the two groupings of the pooling agree at every image, and so do the results. -/
module

public import proofs.«01_k».proof.Defs
public import proofs.«01_k».proof.Proof.Final
public import proofs.«01_k».proof.Proof.Host
public import proofs.«01_k».proof.Proof.Gen.ReferenceIdeal.Run

@[expose] public section

noncomputable section

namespace Cert.Proof

open Idealize.ShloMosaic Idealize.ShloMosaic.TcCoe Idealize.SL.Sem Cert.Netvlad
open Cert.KernelIdeal (S64x128x64x64 S32x128 S64x32x128 S64x4096)

/-- The precondition's side condition: a single number stretches over the weights' shape. -/
theorem pre_facts : Cert.Pre_finite_weights.Facts := ⟨by decide⟩

/-- The bits of the precondition's bound are infinity. -/
theorem bound_top : Ideal.ofBits .f32 0x7F800000#32 = ⊤ := by
  simp [Ideal.ofBits, Ideal.ieee]

/-- A number below infinity in size is real. -/
theorem isReal_of_abs_lt (x : EReal) (h : max x (-x) < ⊤) : IsReal x := by
  induction x using EReal.rec with
  | bot => simp at h
  | coe r => exact ⟨r, rfl⟩
  | top => simp at h

/-- A comparison that comes out true. -/
theorem lt_of_cmp (x y : EReal) (h : Ideal.cmp .olt x y = 1#1) : x < y := by
  by_contra hn
  simp [Ideal.cmp, hn] at h

/-- Under the precondition every weight is a real number. -/
theorem weights_real [Cert.Pre_finite_weights.Facts] (x : FVec Ideal S64x128x64x64 .f32) (w c : FVec Ideal S32x128 .f32)
    (h : Cert.Pre_finite_weights.fn (F := Ideal) x w c = fun _ => 1#1) (k : Fin 32) (d : Fin 128) :
    IsReal (Cert.KernelIdeal.Body.table w k d) := by
  have e : Ideal.cmp .olt (max (w (ix2 k d)) (-w (ix2 k d))) (Ideal.ofBits .f32 0x7F800000#32) = 1#1 := congrFun h (ix2 k d)
  rw [bound_top] at e
  exact isReal_of_abs_lt _ (lt_of_cmp _ _ e)

/-- The kernel's result at image `n` and the place of row `k` and channel `d` is the pooled array there. -/
theorem kernel_apply (x : FVec Ideal S64x128x64x64 .f32) (w c : FVec Ideal S32x128 .f32) (n : Fin 64) (k : Fin 32)
    (d : Fin 128) :
    shapeCast S64x4096 (Cert.KernelIdeal.Final.pooled x w c) Cert.KernelIdeal.Gen.shapeCasts_S64x32x128_S64x4096
        (ix2 n (Cert.ReferenceIdeal.Steps.place k d))
      = total (intra (vladK (Cert.KernelIdeal.Final.photo x n) (Cert.KernelIdeal.Body.table w)
          (Cert.KernelIdeal.Body.table c))) k d := by
  pointwise [Cert.ReferenceIdeal.Steps.place]
  rfl

/-- The kernel's result is the reference's: at image `n`, row `k` and channel `d` both are the total normalisation of the
    rows' normalisation of the pooled image, in the kernel's grouping and in the reference's. -/
theorem same_result (x : FVec Ideal S64x128x64x64 .f32) (w c : FVec Ideal S32x128 .f32)
    (hw : ∀ k d, IsReal (Cert.KernelIdeal.Body.table w k d)) :
    shapeCast S64x4096 (Cert.KernelIdeal.Final.pooled x w c) Cert.KernelIdeal.Gen.shapeCasts_S64x32x128_S64x4096
      = Cert.ReferenceIdeal.Steps.result x w c := by
  funext i
  idx_vars i
  rw [← Cert.ReferenceIdeal.Steps.place_eq i1, Cert.ReferenceIdeal.Steps.result_apply, kernel_apply]
  have e : vladK (Cert.KernelIdeal.Final.photo x i0) (Cert.KernelIdeal.Body.table w) (Cert.KernelIdeal.Body.table c)
      = vladR (Cert.KernelIdeal.Final.photo x i0) (Cert.KernelIdeal.Body.table w) (Cert.KernelIdeal.Body.table c) :=
    funext fun k => funext fun d => vlad_eq _ _ _ hw k d
  rw [e]
  rfl

/-- The kernel and the reference, from memories that agree on the arguments and hold weights below infinity in size, end
    with the same result and leave their arguments as they were. -/
theorem same_values [Cert.Pre_finite_weights.Facts] :
    Cert.algebraic_KernelIdeal_ReferenceIdeal_pre_finite_weights := by
  intro m g m' g' hp ha
  refine ⟨fun c => Cert.ReferenceIdeal.Steps.result (Cert.KernelIdeal.Final.argX m c) (Cert.KernelIdeal.Final.argW m c)
      (Cert.KernelIdeal.Final.argC m c), ?_, ?_⟩
  · exact (θ_run _ _ _).mono
      (fun _ h c => ⟨(h c).1.trans (same_result _ _ _ (weights_real _ _ _ (hp c))), (h c).2⟩)
      (Cert.KernelIdeal.Final.run m g)
  · refine (θ_run _ _ _).mono (fun _ h c => ⟨(h c).1.trans ?_, (h c).2⟩)
      (Cert.ReferenceIdeal.Value.run (F := Ideal) m' g')
    refine (Cert.ReferenceIdeal.Steps.res_eq m' c).trans ?_
    rw [(ha c).1, (ha c).2.1, (ha c).2.2]

end Cert.Proof

end
-- ==== Proof.Need.lean ====
/- The precondition cannot be dropped: an image and a table of weights with one infinite entry at which the two
   groupings of the pooling end in different descriptors.

   The image has the first channel at its first pixel and the second channel at every other pixel.  The weight of cluster
   0 for the first channel is `⊤` and every other weight is zero.  At the first pixel one logit is `⊤`: the kernel's
   assignment there is zero, and the reference's is `0 / 0`, which is `⊥`.  At the other pixels every logit is zero.
   The kernel's row 0 is then the other pixels' and the reference's is normalised to zero. -/
module

public import proofs.«01_k».proof.Proof.Value

@[expose] public section

noncomputable section

namespace Cert.Netvlad.Need

open Idealize.ShloMosaic

/-- The first channel at the first pixel, the second channel at every other. -/
def img (p : Fin 4096) (d : Fin 128) : EReal := if d = (if p = 0 then 0 else 1) then 1 else 0

/-- One infinite weight. -/
def wts (k : Fin 32) (d : Fin 128) : EReal := if k = 0 ∧ d = 0 then ⊤ else 0

/-- Centroids at the origin. -/
def ctr (_ : Fin 32) (_ : Fin 128) : EReal := 0

/-- The sum of squares of a pixel's descriptor is one. -/
theorem sq_one (p : Fin 4096) : ∑ d, img p d * img p d = 1 := by
  simp [img]

/-- The reciprocal of a guarded norm is positive where the norm is finite. -/
theorem rinv_pos {s : EReal} (h : guard s ≠ ⊤) : 0 < rinv s := by
  rw [rinv_eq]
  have hp := guard_pos s
  generalize guard s = g at h hp
  induction g with
  | bot => exact absurd hp (by simp)
  | top => exact absurd rfl h
  | coe r => rw [← EReal.coe_inv]; exact EReal.coe_pos.2 (inv_pos.2 (EReal.coe_pos.1 hp))

/-- The guarded norm of a real sum of squares is finite. -/
theorem guard_ne_top {s : EReal} (h : IsReal s) : guard s ≠ ⊤ := by
  obtain ⟨r, rfl⟩ := h
  have he : eps ≠ ⊤ := by
    simp [eps, Ideal.ofBits, Ideal.ieee, -EReal.coe_mul]
  refine (max_lt ?_ (lt_top_iff_ne_top.2 he)).ne
  show (if r < 0 then ⊥ else (Real.sqrt r : EReal)) < ⊤
  split
  · exact bot_lt_top
  · exact EReal.coe_lt_top _

/-- Every pixel's scale is positive. -/
theorem scale_pos (p : Fin 4096) : 0 < scale img p := by
  unfold scale
  rw [sq_one]
  exact rinv_pos (guard_ne_top ⟨1, rfl⟩)

/-- The one infinite logit. -/
theorem logit_first : logitK img wts 0 0 = ⊤ := by
  unfold logitK
  rw [show (∑ d, wts 0 d * img 0 d) = ⊤ by simp [wts, img]]
  exact EReal.top_mul_of_pos (scale_pos 0)

/-- Every other logit is zero. -/
theorem logit_zero (k : Fin 32) (p : Fin 4096) (h : k ≠ 0 ∨ p ≠ 0) : logitK img wts k p = 0 := by
  unfold logitK
  rw [show (∑ d, wts k d * img p d) = 0 from Finset.sum_eq_zero fun d _ => ?_, zero_mul]
  rcases h with h | h
  · simp [wts, h]
  · by_cases hd : d = 0 <;> simp [wts, img, h, hd]

/-- The kernel assigns the first pixel to no cluster. -/
theorem assignK_first (k : Fin 32) : assignK img wts k 0 = 0 := by
  have hs : ∑ i, Ideal.exp (logitK img wts i 0) = ⊤ := by
    refine top_le_iff.1 (le_trans (le_of_eq ?_) (Finset.single_le_sum (f := fun i => Ideal.exp (logitK img wts i 0))
      (fun i _ => ?_) (Finset.mem_univ (0 : Fin 32))))
    · rw [logit_first]; rfl
    · by_cases h : i = 0
      · rw [h, logit_first]; exact le_top
      · rw [logit_zero i 0 (Or.inl h), ← EReal.coe_zero, Ideal.exp_coe]; exact EReal.coe_nonneg.2 (Real.exp_pos _).le
  unfold assignK
  rw [hs, Ideal.div, if_neg EReal.top_ne_zero, EReal.inv_top, mul_zero, mul_zero]

/-- The kernel assigns every other pixel to the 32 clusters alike. -/
theorem assignK_rest (k : Fin 32) (p : Fin 4096) (h : p ≠ 0) : assignK img wts k p = ((1 / 32 : ℝ) : EReal) := by
  unfold assignK
  simp only [fun i => logit_zero i p (Or.inr h)]
  rw [← EReal.coe_zero, Ideal.exp_coe, coe_sum, Ideal.div_coe (by norm_num), one_mul, ← EReal.coe_mul]
  norm_num

/-- The reference's assignment of the first pixel to every cluster is `0 / 0`. -/
theorem assignR_first (k : Fin 32) : assignR img wts k 0 = ⊥ := by
  have ht : topR img wts 0 = ⊤ :=
    top_le_iff.1 ((Finset.le_fold_max _).2 (Or.inr ⟨0, Finset.mem_univ 0, by rw [← logit_eq, logit_first]⟩))
  have he (i : Fin 32) : Ideal.exp (logitR img wts i 0 - topR img wts 0) = 0 := by
    rw [ht, EReal.sub_top]; rfl
  unfold assignR
  simp only [he, Finset.sum_const_zero]
  simp [Ideal.div]

/-- Every assignment of the kernel is a real number, and none is negative. -/
theorem assignK_real (k : Fin 32) (p : Fin 4096) : IsReal (assignK img wts k p) ∧ 0 ≤ assignK img wts k p := by
  by_cases h : p = 0
  · rw [h, assignK_first]; exact ⟨⟨0, rfl⟩, le_rfl⟩
  · rw [assignK_rest k p h]; exact ⟨⟨_, rfl⟩, EReal.coe_nonneg.2 (by norm_num)⟩

/-- Every entry of the image is a real number, and none is negative. -/
theorem img_real (p : Fin 4096) (d : Fin 128) : IsReal (img p d) ∧ 0 ≤ img p d := by
  by_cases h : d = (if p = 0 then 0 else 1)
  · rw [img, if_pos h]; exact ⟨⟨1, rfl⟩, zero_le_one⟩
  · rw [img, if_neg h]; exact ⟨⟨0, rfl⟩, le_rfl⟩

/-- The kernel's residual sums are real numbers. -/
theorem vladK_real (k : Fin 32) (d : Fin 128) : IsReal (vladK img wts ctr k d) := by
  unfold vladK
  rw [ctr, mul_zero, sub_zero]
  exact IsReal.sum _ fun p => ((assignK_real k p).1.mul (rinv_real _)).mul (img_real p d).1

/-- The kernel's residual sum of cluster 0 at the second channel is positive. -/
theorem vladK_pos : 0 < vladK img wts ctr 0 1 := by
  unfold vladK
  rw [ctr, mul_zero, sub_zero]
  have hn (p : Fin 4096) : 0 ≤ assignK img wts 0 p * scale img p * img p 1 :=
    mul_nonneg (mul_nonneg (assignK_real 0 p).2 (rinv_nonneg _)) (img_real p 1).2
  refine lt_of_lt_of_le ?_ (Finset.single_le_sum (fun p _ => hn p) (Finset.mem_univ (1 : Fin 4096)))
  have h1 : img 1 1 = 1 := by simp [img]
  rw [assignK_rest 0 1 (by decide), h1, mul_one]
  exact EReal.mul_pos (EReal.coe_pos.2 (by norm_num)) (scale_pos 1)

/-- The reference's residual sum of cluster 0 at the first channel is infinite. -/
theorem vladR_bot : vladR img wts ctr 0 0 = ⊥ := by
  unfold vladR
  rw [ctr, mul_zero, sub_zero, Finset.sum_eq_single (0 : Fin 4096)]
  · rw [assignR_first, show img 0 0 = 1 by simp [img], one_mul]
    exact EReal.bot_mul_of_pos (scale_pos 0)
  · intro p _ h
    simp [img, h]
  · exact fun h => absurd (Finset.mem_univ _) h

/-- A positive real divided by the guarded norm of a real sum of squares is positive and real. -/
theorem div_pos_real {x s : EReal} (hx : 0 < x) (hs : IsReal s) : 0 < Ideal.div x (guard s) := by
  rw [div_guard]
  exact EReal.mul_pos hx (rinv_pos (guard_ne_top hs))

/-- The two descriptors differ at cluster 0 and the second channel. -/
theorem image_differs : total (intra (vladK img wts ctr)) 0 1 ≠ total (intra (vladR img wts ctr)) 0 1 := by
  have hi (k : Fin 32) (d : Fin 128) : IsReal (intra (vladK img wts ctr) k d) := by
    unfold intra
    rw [div_guard]
    exact (vladK_real k d).mul (rinv_real _)
  have hk : 0 < total (intra (vladK img wts ctr)) 0 1 :=
    div_pos_real (div_pos_real vladK_pos (IsReal.sum _ fun d => (vladK_real 0 d).mul (vladK_real 0 d)))
      (IsReal.sum _ fun k => IsReal.sum _ fun d => (hi k d).mul (hi k d))
  have hr : total (intra (vladR img wts ctr)) 0 1 = 0 := by
    have h0 : intra (vladR img wts ctr) 0 1 = 0 := by
      unfold intra
      rw [div_guard, sum_sq_top (vladR img wts ctr 0) 0 (by rw [vladR_bot]; exact EReal.bot_mul_bot), rinv_top, mul_zero]
    unfold total
    rw [div_guard, h0, zero_mul]
  rw [hr]
  exact hk.ne'

/-- The number of a pixel from its row and its column. -/
def pixel (a b : Fin 64) : Fin 4096 := ⟨a.val * 64 + b.val, by omega⟩

/-- Every image of the batch is the image above. -/
def batch : FVec Ideal Cert.KernelIdeal.S64x128x64x64 .f32 := fun i => img (pixel (i 2) (i 3)) (i 1)

/-- The image above, read back from the batch. -/
theorem photo_batch (n : Fin 64) : Cert.KernelIdeal.Final.photo batch n = img :=
  funext fun p => funext fun d => congrArg (fun q => img q d) (Fin.ext (Nat.div_add_mod' p.val 64))

/-- Without the precondition there are arguments at which the kernel's result is not the reference's. -/
theorem result_differs : ∃ (x : FVec Ideal Cert.KernelIdeal.S64x128x64x64 .f32) (w c : FVec Ideal Cert.KernelIdeal.S32x128 .f32),
    shapeCast Cert.KernelIdeal.S64x4096 (Cert.KernelIdeal.Final.pooled x w c)
        Cert.KernelIdeal.Gen.shapeCasts_S64x32x128_S64x4096
      ≠ Cert.ReferenceIdeal.Steps.result x w c := by
  refine ⟨batch, fun i => wts (i 0) (i 1), fun i => ctr (i 0) (i 1), fun h => image_differs ?_⟩
  have e := congrFun h (ix2 0 (Cert.ReferenceIdeal.Steps.place 0 1))
  rw [Cert.Proof.kernel_apply, Cert.ReferenceIdeal.Steps.result_apply,
    show Cert.ReferenceIdeal.Steps.image batch 0 = img from photo_batch 0, photo_batch] at e
  exact e

end Cert.Netvlad.Need

end
-- ==== Proof.lean ====
module

public import proofs.«01_k».proof.Defs
public import proofs.«01_k».proof.Proof.Frames
public import proofs.«01_k».proof.Proof.Value
public import proofs.«01_k».proof.Proof.Need

@[expose] public section

noncomputable section

namespace Cert.Proof

/-- Everything this directory claims, with the witnesses of the programs' stated side conditions. -/
theorem claim : Cert.Claim :=
  ⟨Cert.Kernel.Gen.facts, Cert.KernelIdeal.Gen.facts, Cert.ReferenceIdeal.Gen.facts, pre_facts,
    kernel_runs, ideal_kernel_runs, @ideal_kernel_runs_pre pre_facts, ideal_reference_runs,
    @ideal_reference_runs_pre pre_facts, nothing_replaced,
    @same_values pre_facts⟩

end Cert.Proof

end
